-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_v15) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x4096x1024 : Shape := ⟨3, ![32, 4096, 1024]⟩
abbrev S32x1024 : Shape := ⟨2, ![32, 1024]⟩
abbrev S32x4096 : Shape := ⟨2, ![32, 4096]⟩
abbrev S32x1x1024 : Shape := ⟨3, ![32, 1, 1024]⟩
abbrev S32x1x4096 : Shape := ⟨3, ![32, 1, 4096]⟩
abbrev S1x1x1024 : Shape := ⟨3, ![1, 1, 1024]⟩
abbrev S1x1x4096 : Shape := ⟨3, ![1, 1, 4096]⟩
abbrev S1x4096x1024 : Shape := ⟨3, ![1, 4096, 1024]⟩
abbrev S4096x1024 : Shape := ⟨2, ![4096, 1024]⟩
abbrev S1x1024 : Shape := ⟨2, ![1, 1024]⟩
abbrev S1x4096 : Shape := ⟨2, ![1, 4096]⟩
abbrev S1 : Shape := ⟨1, ![1]⟩
abbrev S1x1 : Shape := ⟨2, ![1, 1]⟩

abbrev nBuf : Space → Nat
  | .hbm => 9
  | .vmem => 10
  | .smem => 0
  | _ => 0

abbrev bufTy : (tb : Table) → Fin (tcTables nBuf tb) → BufTy
  | .hbm, ⟨0, _⟩ => ⟨S32x4096x1024, .f32⟩
  | .hbm, ⟨1, _⟩ => ⟨S32x1024, .f32⟩
  | .hbm, ⟨2, _⟩ => ⟨S32x4096, .i32⟩
  | .hbm, ⟨3, _⟩ => ⟨S32x1x1024, .f32⟩
  | .hbm, ⟨4, _⟩ => ⟨S32x1x4096, .i32⟩
  | .hbm, ⟨5, _⟩ => ⟨S32x1x1024, .f32⟩
  | .hbm, ⟨6, _⟩ => ⟨S32x1x4096, .f32⟩
  | .hbm, ⟨7, _⟩ => ⟨S32x1024, .f32⟩
  | .hbm, ⟨8, _⟩ => ⟨S32x4096, .f32⟩
  | .local _ .vmem, ⟨0, _⟩ => ⟨S1x1x1024, .f32⟩
  | .local _ .vmem, ⟨1, _⟩ => ⟨S1x1x1024, .f32⟩
  | .local _ .vmem, ⟨2, _⟩ => ⟨S1x1x4096, .i32⟩
  | .local _ .vmem, ⟨3, _⟩ => ⟨S1x1x4096, .i32⟩
  | .local _ .vmem, ⟨4, _⟩ => ⟨S1x4096x1024, .f32⟩
  | .local _ .vmem, ⟨5, _⟩ => ⟨S1x4096x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x4096, .f32⟩
  | .local _ .vmem, ⟨9, _⟩ => ⟨S1x1x4096, .f32⟩
  | _, _ => ⟨S32x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4096x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S32x4096x1024 : Shape := ⟨3, ![32, 4096, 1024]⟩
abbrev S32x1024 : Shape := ⟨2, ![32, 1024]⟩
abbrev S32x4096 : Shape := ⟨2, ![32, 4096]⟩
abbrev S_ : Shape := ⟨0, ![]⟩
abbrev S32 : Shape := ⟨1, ![32]⟩
abbrev S32x1 : Shape := ⟨2, ![32, 1]⟩

abbrev nBuf : Space → Nat
  | .hbm => 27
  | .vmem => 0
  | .smem => 0
  | _ => 0

abbrev bufTy : (tb : Table) → Fin (tcTables nBuf tb) → BufTy
  | .hbm, ⟨0, _⟩ => ⟨S32x4096x1024, .f32⟩
  | .hbm, ⟨1, _⟩ => ⟨S32x1024, .f32⟩
  | .hbm, ⟨2, _⟩ => ⟨S32x4096, .i32⟩
  | .hbm, ⟨3, _⟩ => ⟨S32x4096, .f32⟩
  | .hbm, ⟨4, _⟩ => ⟨S32x4096, .f32⟩
  | .hbm, ⟨5, _⟩ => ⟨S_, .f32⟩
  | .hbm, ⟨6, _⟩ => ⟨S32x4096, .f32⟩
  | .hbm, ⟨7, _⟩ => ⟨S32x4096, .i1⟩
  | .hbm, ⟨8, _⟩ => ⟨S_, .f32⟩
  | .hbm, ⟨9, _⟩ => ⟨S_, .f32⟩
  | .hbm, ⟨10, _⟩ => ⟨S32x4096, .f32⟩
  | .hbm, ⟨11, _⟩ => ⟨S32x4096, .f32⟩
  | .hbm, ⟨12, _⟩ => ⟨S_, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S32x1, .f32⟩
  | .hbm, ⟨18, _⟩ => ⟨S32x4096, .f32⟩
  | .hbm, ⟨19, _⟩ => ⟨S32x4096, .f32⟩
  | .hbm, ⟨20, _⟩ => ⟨S32x4096, .f32⟩
  | .hbm, ⟨21, _⟩ => ⟨S_, .f32⟩
  | .hbm, ⟨22, _⟩ => ⟨S32, .f32⟩
  | .hbm, ⟨23, _⟩ => ⟨S32x1, .f32⟩
  | .hbm, ⟨24, _⟩ => ⟨S32x4096, .f32⟩
  | .hbm, ⟨25, _⟩ => ⟨S32x4096, .f32⟩
  | .hbm, ⟨26, _⟩ => ⟨S32x1024, .f32⟩
  | _, _ => ⟨S32x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_call0_v0 : Ref sig .tc := ⟨.hbm, 9, rfl⟩
abbrev main_call0_v1 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩

abbrev nD : Nat := 1
abbrev τ : Topo := Topo.v7x

variable {F : FTy → Type} [FloatOps F]
-- ==== Proof.Attention.lean ====
/-
  The mathematics of the problem for ONE batch entry, over the extended reals: the masked scores of its rows against its
  query vector, the softmax of the scores, and the sum of the rows by these weights. No program is mentioned here: the
  kernel's block (Block.lean) and the reference's arrays (Reference.lean) are both shown to be these functions.
-/
module

public import Idealize.ShloMosaic.Lib.Pointwise
public import Idealize.ShloMosaic.PureOps.Ideal.Laws

@[expose] public section

noncomputable section

namespace Cert.Attention

open Idealize.ShloMosaic

/-- The score that a masked position gets: the real number that the binary32 word of `-1e30` stands for. -/
def fill : EReal := Ideal.ofBits .f32 0xF149F2CA#32

/-- The score of position `l`: the inner product of the query `q` with row `l` of `x` where the mask word of `l` is
    positive, `fill` elsewhere. -/
def score {L D : ℕ} (x : Fin L → Fin D → EReal) (q : Fin D → EReal) (k : Fin L → BitVec 32) (l : Fin L) : EReal :=
  if 0 < (k l).toInt then ∑ d, x l d * q d else fill

/-- The largest of the scores. -/
def peak {L : ℕ} (s : Fin L → EReal) : EReal := Finset.univ.sup s

/-- The softmax of the scores `s` at position `l`, taken relative to the largest score. -/
def weight {L : ℕ} (s : Fin L → EReal) (l : Fin L) : EReal :=
  Ideal.div (Ideal.exp (s l - peak s)) (∑ j, Ideal.exp (s j - peak s))

/-- Coordinate `d` of the pooled vector: the sum of the rows of `x`, each times its position's weight. -/
def pooled {L D : ℕ} (x : Fin L → Fin D → EReal) (q : Fin D → EReal) (k : Fin L → BitVec 32) (d : Fin D) : EReal :=
  ∑ l, weight (score x q k) l * x l d

/-! ## How the two programs write these -/

/-- The word that a maximum starts from stands for minus infinity. -/
theorem lowest : Ideal.ofBits .f32 0xFF800000#32 = (⊥ : EReal) := by
  simp [Ideal.ofBits, Ideal.ieee]

/-- A maximum folded from that word is the largest element. -/
theorem fold_max_eq {L : ℕ} (s : Fin L → EReal) :
    Finset.fold max (Ideal.ofBits .f32 0xFF800000#32) s Finset.univ = peak s := by
  rw [lowest]; rfl

/-- A selection by the signed comparison of a mask word with zero is the case distinction of `score`. -/
theorem select_signed (w : BitVec 32) (a b : EReal) :
    Scalar.select (IntOp.cmpi .sgt w 0#32) a b = if 0 < w.toInt then a else b := by
  by_cases h : 0 < w.toInt <;> simp [Scalar.select, IntOp.cmpi, BitVec.slt, h]

/-- A mask word is positive exactly when the real number it converts to is. -/
theorem converted_pos (w : BitVec 32) : (0 : EReal) < ((w.toInt : ℝ) : EReal) ↔ 0 < w.toInt := by
  rw [EReal.coe_pos, Int.cast_pos]

end Cert.Attention

end
-- ==== Proof.Block.lean ====
/-
  What the kernel's body computes from one batch entry's blocks: the two payloads that it stores are the softmax weights
  and the pooled vector of Attention.lean, read off the blocks' elements.
-/
module

public import proofs.«01_k».proof.Proof.Attention
public import proofs.«01_k».proof.Proof.Gen.KernelIdeal.Skeleton

@[expose] public section

set_option maxRecDepth 16384

noncomputable section

namespace Cert.KernelIdeal.Block

open Cert.KernelIdeal Cert.KernelIdeal.Gen Cert.Attention Idealize.ShloMosaic

/-- The rows of a block of the sequence. -/
abbrev rows (x : Vec Ideal S1x4096x1024 .f32) : Fin 4096 → Fin 1024 → EReal := fun l d => x (ix3 0 l d)
/-- The query of a block of the vectors. -/
abbrev query (q : Vec Ideal S1x1x1024 .f32) : Fin 1024 → EReal := fun d => q (ix3 0 0 d)
/-- The mask words of a block of the mask. -/
abbrev marks (k : Vec Ideal S1x1x4096 .i32) : Fin 4096 → BitVec 32 := fun l => k (ix3 0 0 l)

variable (x : Vec Ideal S1x4096x1024 .f32) (q : Vec Ideal S1x1x1024 .f32) (k : Vec Ideal S1x1x4096 .i32)

/-- The body's quotient at position `l` is the softmax weight of that position. -/
theorem quotient_apply (l : Fin 4096) :
    k0_pay2 x q k (ix2 0 l) = weight (score (rows x) (query q) (marks k)) l := by
  have hs : (fun l : Fin 4096 => Scalar.select (IntOp.cmpi .sgt (k (ix3 0 0 l)) 0#32)
      (∑ d : Fin 1024, q (ix3 0 0 d) * x (ix3 0 l d)) (Ideal.ofBits .f32 0xF149F2CA#32))
        = score (rows x) (query q) (marks k) := funext fun l => by
    rw [select_signed]
    unfold score fill
    simp only [mul_comm]
  pointwise [k0_pay2, k0_pay1]
  simp only [congrFun hs]
  rw [fold_max_eq]
  rfl

/-- The block stored for the weights. -/
theorem weights_apply (l : Fin 4096) :
    k0_pay3 x q k (ix3 0 0 l) = weight (score (rows x) (query q) (marks k)) l := by
  rw [← quotient_apply]
  pointwise [k0_pay3]

/-- The block stored for the pooled vector. -/
theorem pooled_apply (d : Fin 1024) :
    k0_pay4 x q k (ix3 0 0 d) = pooled (rows x) (query q) (marks k) d := by
  unfold pooled
  simp only [← quotient_apply]
  pointwise [k0_pay4, k0_pay1]

end Cert.KernelIdeal.Block

end
-- ==== Proof.Arrays.lean ====
/-
  What the kernel's two result arrays hold when its grid has run. Grid point `t` reads batch entry `t` of the three
  operands and writes entry `t` of both results, so each result array is, entry by entry, the function of Attention.lean
  at that entry of the arguments.
-/
module

public import proofs.«01_k».proof.Proof.Block
public import proofs.«01_k».proof.Proof.Gen.KernelIdeal.Frame
public import Idealize.ShloMosaic.Lib.Pipeline.ValueKit
public import Idealize.ShloMosaic.Lib.StableHlo.ReadAt

@[expose] public section

set_option maxRecDepth 16384

noncomputable section

namespace Cert.KernelIdeal.Arrays

open Cert.KernelIdeal Cert.KernelIdeal.Gen Cert.Attention Idealize.ShloMosaic Idealize.ShloMosaic.TcCoe Idealize.SL.Sem

variable (m : (ℓ : Loc nD τ sig) → Buf (Elt Ideal) ℓ) (c : Dev nD)

/-- The rows of batch entry `b` of the sequence argument. -/
abbrev rowsOf (b : Fin 32) : Fin 4096 → Fin 1024 → EReal := fun l d => m ((c : Thread nD τ).loc main_arg0) (ix3 b l d)
/-- The query vector of batch entry `b`. -/
abbrev queryOf (b : Fin 32) : Fin 1024 → EReal := fun d => m ((c : Thread nD τ).loc main_arg1) (ix2 b d)
/-- The mask words of batch entry `b`. -/
abbrev marksOf (b : Fin 32) : Fin 4096 → BitVec 32 := fun l => m ((c : Thread nD τ).loc main_arg2) (ix2 b l)

/-- Every operand's block at grid point `t` starts at batch entry `t`. -/
theorem starts : ∀ t : Fin cfg0.N, win0_0.index t = ![t.val, 0, 0] ∧ win0_1.index t = ![t.val, 0, 0]
    ∧ win0_2.index t = ![t.val, 0, 0] ∧ win0_3.index t = ![t.val, 0, 0] ∧ win0_4.index t = ![t.val, 0, 0] :=
  (by decide +kernel : ∀ t : Fin grid0.N, _)

/-- The vectors as the region finds them: the argument with an axis of one element put in. -/
theorem entry_vectors (b : Fin 32) (a : Fin 1) (d : Fin 1024) :
    V m c main_v0 (ix3 b a d) = m ((c : Thread nD τ).loc main_arg1) (ix2 b d) := by
  unfold V V0
  after_reads_at

/-- The mask as the region finds it: the argument with an axis of one element put in. -/
theorem entry_marks (b : Fin 32) (a : Fin 1) (l : Fin 4096) :
    V m c main_v1 (ix3 b a l) = m ((c : Thread nD τ).loc main_arg2) (ix2 b l) := by
  unfold V V0
  after_reads_at

variable (t : Fin cfg0.N) (b : Fin 32) (hb : b.val = t.val)

include hb

/-- The block of the vectors at point `t` is the query of entry `t`. -/
theorem query_block (d : Fin 1024) : iblk m c 0 t (ix3 0 0 d) = V m c main_v0 (ix3 b 0 d) := by
  blk_ext [iblk, starts t]

/-- The block of the mask at point `t` is the mask of entry `t`. -/
theorem marks_block (l : Fin 4096) : iblk m c 1 t (ix3 0 0 l) = V m c main_v1 (ix3 b 0 l) := by
  blk_ext [iblk, starts t]

/-- The block of the sequence at point `t` is the rows of entry `t`. -/
theorem rows_block (l : Fin 4096) (d : Fin 1024) : iblk m c 2 t (ix3 0 l d) = V m c main_arg0 (ix3 b l d) := by
  blk_ext [iblk, starts t]

/-- So the three blocks at point `t` hold the rows, the query and the mask words of entry `t` of the arguments. -/
theorem blocks : Block.rows (iblk m c 2 t) = rowsOf m c b ∧ Block.query (iblk m c 0 t) = queryOf m c b
    ∧ Block.marks (iblk m c 1 t) = marksOf m c b :=
  ⟨funext fun l => funext fun d => (rows_block m c t b hb l d).trans (congrFun (V_main_arg0 m c) _),
    funext fun d => (query_block m c t b hb d).trans (entry_vectors m c b 0 d),
    funext fun l => (marks_block m c t b hb l).trans (entry_marks m c b 0 l)⟩

/-- The block of the pooled vectors that point `t` stores. -/
theorem pooled_block (d : Fin 1024) : k0_pay4 (iblk m c 2 t) (iblk m c 0 t) (iblk m c 1 t) (ix3 0 0 d)
    = pooled (rowsOf m c b) (queryOf m c b) (marksOf m c b) d := by
  obtain ⟨hx, hq, hk⟩ := blocks m c t b hb
  rw [← hx, ← hq, ← hk]
  exact Block.pooled_apply _ _ _ d

/-- The block of the weights that point `t` stores. -/
theorem weights_block (l : Fin 4096) : k0_pay3 (iblk m c 2 t) (iblk m c 0 t) (iblk m c 1 t) (ix3 0 0 l)
    = weight (score (rowsOf m c b) (queryOf m c b) (marksOf m c b)) l := by
  obtain ⟨hx, hq, hk⟩ := blocks m c t b hb
  rw [← hx, ← hq, ← hk]
  exact Block.weights_apply _ _ _ l

omit hb

/-- The array of the pooled vectors after the grid. -/
theorem pooled_array : (dats m 0 c).arrAt 3 cfg0.N
    = fun i : S32x1x1024.Idx => pooled (rowsOf m c (i 0)) (queryOf m c (i 0)) (marksOf m c (i 0)) (i 2) := by
  refine (dats m 0 c).arrAt_eq_of_covers 3 _ (by decide +kernel) fun t _ y => ?_
  have he : ((cfg0.win 3).blk t).view.emb y = ix3 (⟨t.val, t.isLt⟩ : Fin 32) (0 : Fin 1) (y 2 : Fin 1024) := by
    blk_ext [starts t]
  have hy : y = ix3 (0 : Fin 1) (0 : Fin 1) (y 2 : Fin 1024) := by blk_ext
  rw [he]
  blk_simp
  rw [after0_3]
  frame_out
  rw [hy]
  exact pooled_block m c t ⟨t.val, t.isLt⟩ rfl (y 2)

/-- The array of the weights after the grid. -/
theorem weights_array : (dats m 0 c).arrAt 4 cfg0.N
    = fun i : S32x1x4096.Idx => weight (score (rowsOf m c (i 0)) (queryOf m c (i 0)) (marksOf m c (i 0))) (i 2) := by
  refine (dats m 0 c).arrAt_eq_of_covers 4 _ (by decide +kernel) fun t _ y => ?_
  have he : ((cfg0.win 4).blk t).view.emb y = ix3 (⟨t.val, t.isLt⟩ : Fin 32) (0 : Fin 1) (y 2 : Fin 4096) := by
    blk_ext [starts t]
  have hy : y = ix3 (0 : Fin 1) (0 : Fin 1) (y 2 : Fin 4096) := by blk_ext
  rw [he]
  blk_simp
  rw [after0_4]
  frame_out
  rw [hy]
  exact weights_block m c t ⟨t.val, t.isLt⟩ rfl (y 2)

end Cert.KernelIdeal.Arrays

end
-- ==== Proof.Results.lean ====
/-
  The kernel's run: after the grid, two reshapes drop the axis of one element from the two result arrays, so each result
  of the program is, entry by entry, the function of Attention.lean at that entry of the arguments.
-/
module

public import proofs.«01_k».proof.Proof.Arrays

@[expose] public section

set_option maxRecDepth 16384

noncomputable section

namespace Cert.KernelIdeal.Results

open Cert.KernelIdeal Cert.KernelIdeal.Gen Cert.KernelIdeal.Arrays Cert.Attention Idealize.ShloMosaic
open Idealize.ShloMosaic.TcCoe Idealize.SL.Sem

/-- The reshape of the pooled vectors, element by element. -/
theorem reshape_pooled (W : Valuation τ sig (Elt Ideal)) (b : Fin 32) (d : Fin 1024) :
    StableHlo.after (List.flatten [hostOps1]) W (Proc.devRef .tc main_v3) (ix2 b d)
      = W (Proc.devRef .tc main_v2_0) (ix3 b 0 d) := by
  after_reads_at

/-- The reshape of the weights, element by element. -/
theorem reshape_weights (W : Valuation τ sig (Elt Ideal)) (b : Fin 32) (l : Fin 4096) :
    StableHlo.after (List.flatten [hostOps1]) W (Proc.devRef .tc main_v4) (ix2 b l)
      = W (Proc.devRef .tc main_v2_1) (ix3 b 0 l) := by
  after_reads_at

/-- The five windows stage five different arrays. -/
theorem arrays_differ : Function.Injective (Pipeline.arrRef spec0) := by decide

variable (m : (ℓ : Loc nD τ sig) → Buf (Elt Ideal) ℓ)

/-- The pooled vectors that the kernel must return. -/
def pooledOf (c : Dev nD) : Buf (Elt Ideal) ((c : Thread nD τ).loc main_v3) :=
  fun i : S32x1024.Idx => pooled (rowsOf m c (i 0)) (queryOf m c (i 0)) (marksOf m c (i 0)) (i 1)

/-- The weights that the kernel must return. -/
def weightsOf (c : Dev nD) : Buf (Elt Ideal) ((c : Thread nD τ).loc main_v4) :=
  fun i : S32x4096.Idx => weight (score (rowsOf m c (i 0)) (queryOf m c (i 0)) (marksOf m c (i 0))) (i 1)

/-- The program's first result after the reshapes. -/
theorem first_result (c : Dev nD) :
    Pipeline.afterTail₀ cfgs (dats m) 0 (V0 m) [hostOps1] c main_v3 = pooledOf m c := by
  funext i
  have hi : i = ix2 (i 0 : Fin 32) (i 1 : Fin 1024) := by blk_ext
  rw [hi]
  unfold Pipeline.afterTail₀
  refine (reshape_pooled _ _ _).trans ?_
  refine (congrFun (Pipeline.withArrays_arr spec0 arrays_differ c (V0 m c) _ 3) _).trans ?_
  exact congrFun (pooled_array m c) _

/-- The program's second result after the reshapes. -/
theorem second_result (c : Dev nD) :
    Pipeline.afterTail₀ cfgs (dats m) 0 (V0 m) [hostOps1] c main_v4 = weightsOf m c := by
  funext i
  have hi : i = ix2 (i 0 : Fin 32) (i 1 : Fin 4096) := by blk_ext
  rw [hi]
  unfold Pipeline.afterTail₀
  refine (reshape_weights _ _ _).trans ?_
  refine (congrFun (Pipeline.withArrays_arr spec0 arrays_differ c (V0 m c) _ 4) _).trans ?_
  exact congrFun (weights_array m c) _

/-- The run: both results as above, the arguments as they were. -/
theorem run (ρ : Dev nD → PrngReg) :
    θ_run defs (onTc (τ := τ) (main (F := Ideal))) ⟨m, fun _ => 0, ρ⟩ (fun r => ∀ c : Dev nD,
      r.2.mem ((c : Thread nD τ).loc main_v3) = pooledOf m c
      ∧ r.2.mem ((c : Thread nD τ).loc main_v4) = weightsOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) :=
  (θ_run defs _ _).mono
    (fun _ h c =>
      ⟨((h.1 c).2 main_v3 (Pipeline.mem_restRefs_of main_v3 (by decide) (by decide))).trans (first_result m c),
        ((h.1 c).2 main_v4 (Pipeline.mem_restRefs_of main_v4 (by decide) (by decide))).trans (second_result m c), h.2 c⟩)
    (θ_run_and (run_main m ρ) (unchanged m ρ))

end Cert.KernelIdeal.Results

end
-- ==== Proof.Reference.lean ====
/-
  What the reference computes: at batch entry `b`, its two results are the softmax weights and the pooled vector of
  Attention.lean, read off that entry of the three arguments.
-/
module

public import proofs.«01_k».proof.Proof.Attention
public import proofs.«01_k».proof.Proof.Gen.ReferenceIdeal.Read

@[expose] public section

set_option maxRecDepth 16384

noncomputable section

namespace Cert.ReferenceIdeal.Entry

open Cert.ReferenceIdeal Cert.ReferenceIdeal.Gen Cert.ReferenceIdeal.Read Cert.Attention Idealize.ShloMosaic

variable (x : (⟨S32x4096x1024, .f32⟩ : BufTy).Contents (Elt Ideal)) (q : (⟨S32x1024, .f32⟩ : BufTy).Contents (Elt Ideal))
  (k : (⟨S32x4096, .i32⟩ : BufTy).Contents (Elt Ideal))

/-- The scores of batch entry `b`. -/
abbrev scores (b : Fin 32) : Fin 4096 → EReal :=
  score (fun l d => x (ix3 b l d)) (fun d => q (ix2 b d)) (fun l => k (ix2 b l))

/-- The masked scores are the scores. -/
theorem masked_apply (b : Fin 32) (l : Fin 4096) : val_main_v4 (F := Ideal) x q k (ix2 b l) = scores x q k b l := by
  pointwise [val_main_v4, val_main_v3, val_main_v2, val_main_v1, val_main_v0, val_main_cst, val_main_cst_0,
    val_main_call0_v0, val_main_call0_v1]
  exact if_congr (converted_pos (k (ix2 b l))) rfl rfl

/-- The maximum over the positions, taken once more against minus infinity, is the largest score. -/
theorem largest_apply (b : Fin 32) : val_main_v7 (F := Ideal) x q k (ix1 b) = peak (scores x q k b) := by
  pointwise [val_main_v7, val_main_v6, val_main_v5, val_main_cst_1, val_main_cst_2]
  simp only [masked_apply]
  rw [fold_max_eq, lowest]
  exact max_eq_right bot_le

/-- The exponentials. -/
theorem exp_apply (b : Fin 32) (l : Fin 4096) : val_main_v11 (F := Ideal) x q k (ix2 b l)
    = Ideal.exp (scores x q k b l - peak (scores x q k b)) := by
  pointwise [val_main_v11, val_main_v10, val_main_v9, val_main_v8]
  rw [masked_apply, largest_apply]

/-- The second result: the weights. -/
theorem weights_apply (b : Fin 32) (l : Fin 4096) :
    val_main_v15 (F := Ideal) x q k (ix2 b l) = weight (scores x q k b) l := by
  pointwise [val_main_v15, val_main_v14, val_main_v13, val_main_v12, val_main_cst_3]
  simp only [exp_apply]
  rfl

/-- The first result: the pooled vectors. -/
theorem pooled_apply (b : Fin 32) (d : Fin 1024) : val_main_v16 (F := Ideal) x q k (ix2 b d)
    = pooled (fun l d => x (ix3 b l d)) (fun d => q (ix2 b d)) (fun l => k (ix2 b l)) d := by
  pointwise [val_main_v16]
  simp only [weights_apply]
  rfl

end Cert.ReferenceIdeal.Entry

end
-- ==== Proof.lean ====
/-
  The certificate. The three runs leave their arguments as they were and end with every counter at zero; the idealized
  kernel is the kernel's own text; and the idealized kernel and the reference end with equal results: Results.lean and
  Reference.lean bring both to the functions of Attention.lean.
-/
module

public import proofs.«01_k».proof.Defs
public import proofs.«01_k».proof.Proof.Gen.Kernel.Frame
public import proofs.«01_k».proof.Proof.Gen.ReferenceIdeal.Run
public import proofs.«01_k».proof.Proof.Results
public import proofs.«01_k».proof.Proof.Reference
public import Idealize.ShloMosaic.Lib.Claim

@[expose] public section

noncomputable section

namespace Cert.Proof

open Idealize.ShloMosaic Idealize.ShloMosaic.TcCoe Idealize.SL.Sem

/-- The reference leaves its arguments as they were and no counter raised. -/
theorem reference_frame : Cert.quiescent_ReferenceIdeal (hReferenceIdeal := Cert.ReferenceIdeal.Gen.facts) := by
  intro m g _
  exact (θ_run _ _ _).mono (fun r h => ⟨fun c => (h c).2.2, sem_eq_zero_of_no_sems (by decide) r.2⟩)
    (Cert.ReferenceIdeal.Value.run (F := Ideal) m g)

/-- The reference's first result over the kernel's arguments is the kernel's first result. -/
theorem pooled_eq (m : (ℓ : Loc Cert.KernelIdeal.nD Cert.KernelIdeal.τ Cert.KernelIdeal.sig) → Buf (Elt Ideal) ℓ)
    (c : Dev Cert.KernelIdeal.nD) :
    Cert.ReferenceIdeal.Read.val_main_v16 (F := Ideal) (m ((c.tc : Thread _ _).loc Cert.KernelIdeal.main_arg0))
        (m ((c.tc : Thread _ _).loc Cert.KernelIdeal.main_arg1)) (m ((c.tc : Thread _ _).loc Cert.KernelIdeal.main_arg2))
      = Cert.KernelIdeal.Results.pooledOf m c := by
  funext i
  have hi : i = ix2 (i 0 : Fin 32) (i 1 : Fin 1024) := by blk_ext
  rw [hi]
  exact Cert.ReferenceIdeal.Entry.pooled_apply ..

/-- The reference's second result over the kernel's arguments is the kernel's second result. -/
theorem weights_eq (m : (ℓ : Loc Cert.KernelIdeal.nD Cert.KernelIdeal.τ Cert.KernelIdeal.sig) → Buf (Elt Ideal) ℓ)
    (c : Dev Cert.KernelIdeal.nD) :
    Cert.ReferenceIdeal.Read.val_main_v15 (F := Ideal) (m ((c.tc : Thread _ _).loc Cert.KernelIdeal.main_arg0))
        (m ((c.tc : Thread _ _).loc Cert.KernelIdeal.main_arg1)) (m ((c.tc : Thread _ _).loc Cert.KernelIdeal.main_arg2))
      = Cert.KernelIdeal.Results.weightsOf m c := by
  funext i
  have hi : i = ix2 (i 0 : Fin 32) (i 1 : Fin 4096) := by blk_ext
  rw [hi]
  exact Cert.ReferenceIdeal.Entry.weights_apply ..

/-- From equal arguments the two programs end with equal results. -/
theorem equal_results : Cert.algebraic_KernelIdeal_ReferenceIdeal (hKernelIdeal := Cert.KernelIdeal.Gen.facts)
    (hReferenceIdeal := Cert.ReferenceIdeal.Gen.facts) := by
  intro m g m' g' _ hagree
  refine ⟨Cert.KernelIdeal.Results.pooledOf m, Cert.KernelIdeal.Results.weightsOf m,
    Cert.KernelIdeal.Results.run m g, ?_⟩
  refine (θ_run _ _ _).mono (fun r h c => ?_) (Cert.ReferenceIdeal.Value.run (F := Ideal) m' g')
  obtain ⟨h16, h15, h0, h1, h2⟩ := h c
  obtain ⟨a0, a1, a2⟩ := hagree c
  refine ⟨(h16.trans (Cert.ReferenceIdeal.Read.val_main_v16_eq _ _ _)).trans ?_,
    (h15.trans (Cert.ReferenceIdeal.Read.val_main_v15_eq _ _ _)).trans ?_, h0, h1, h2⟩
  · rw [a0, a1, a2]
    exact pooled_eq m c
  · rw [a0, a1, a2]
    exact weights_eq m c

theorem claim : Cert.Claim :=
  ⟨Cert.Kernel.Gen.facts, Cert.KernelIdeal.Gen.facts, Cert.ReferenceIdeal.Gen.facts,
    fun m g _ => Cert.Kernel.Gen.frame m g, fun m g _ => Cert.KernelIdeal.Gen.frame m g, reference_frame, trivial,
    equal_results⟩

end Cert.Proof

end
